-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x16384 : Shape := ⟨3, ![96, 1, 16384]⟩
abbrev S8192x13312 : Shape := ⟨2, ![8192, 13312]⟩
abbrev S128x13312 : Shape := ⟨2, ![128, 13312]⟩
abbrev S96x16384 : Shape := ⟨2, ![96, 16384]⟩
abbrev S96x13312 : Shape := ⟨2, ![96, 13312]⟩
abbrev S8192x512 : Shape := ⟨2, ![8192, 512]⟩
abbrev S128x512 : Shape := ⟨2, ![128, 512]⟩
abbrev S96x512 : Shape := ⟨2, ![96, 512]⟩
abbrev S256x512 : Shape := ⟨2, ![256, 512]⟩
abbrev S256x1x512 : Shape := ⟨3, ![256, 1, 512]⟩
abbrev S256x2x512 : Shape := ⟨3, ![256, 2, 512]⟩
abbrev S512x512 : Shape := ⟨2, ![512, 512]⟩
abbrev S1x512 : Shape := ⟨2, ![1, 512]⟩
abbrev S96x1x13312 : Shape := ⟨3, ![96, 1, 13312]⟩

abbrev nBuf : Space → Nat
  | .hbm => 6
  | .vmem => 7
  | .smem => 0
  | _ => 0

abbrev bufTy : (tb : Table) → Fin (tcTables nBuf tb) → BufTy
  | .hbm, ⟨0, _⟩ => ⟨S96x1x16384, .bf16⟩
  | .hbm, ⟨1, _⟩ => ⟨S8192x13312, .i8⟩
  | .hbm, ⟨2, _⟩ => ⟨S128x13312, .bf16⟩
  | .hbm, ⟨3, _⟩ => ⟨S96x16384, .bf16⟩
  | .hbm, ⟨4, _⟩ => ⟨S96x13312, .bf16⟩
  | .hbm, ⟨5, _⟩ => ⟨S96x1x13312, .bf16⟩
  | .local _ .vmem, ⟨0, _⟩ => ⟨S96x16384, .bf16⟩
  | .local _ .vmem, ⟨1, _⟩ => ⟨S8192x512, .i8⟩
  | .local _ .vmem, ⟨2, _⟩ => ⟨S8192x512, .i8⟩
  | .local _ .vmem, ⟨3, _⟩ => ⟨S128x512, .bf16⟩
  | .local _ .vmem, ⟨4, _⟩ => ⟨S128x512, .bf16⟩
  | .local _ .vmem, ⟨5, _⟩ => ⟨S96x512, .bf16⟩
  | .local _ .vmem, ⟨6, _⟩ => ⟨S96x512, .bf16⟩
  | _, _ => ⟨S96x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![26], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S96x1x16384 : Shape := ⟨3, ![96, 1, 16384]⟩
abbrev S8192x13312 : Shape := ⟨2, ![8192, 13312]⟩
abbrev S128x13312 : Shape := ⟨2, ![128, 13312]⟩
abbrev S_ : Shape := ⟨0, ![]⟩
abbrev S128x64x13312 : Shape := ⟨3, ![128, 64, 13312]⟩
abbrev S128x1x13312 : Shape := ⟨3, ![128, 1, 13312]⟩
abbrev S96x1x8192 : Shape := ⟨3, ![96, 1, 8192]⟩
abbrev S96x1x13312 : Shape := ⟨3, ![96, 1, 13312]⟩

abbrev nBuf : Space → Nat
  | .hbm => 34
  | .vmem => 0
  | .smem => 0
  | _ => 0

abbrev bufTy : (tb : Table) → Fin (tcTables nBuf tb) → BufTy
  | .hbm, ⟨0, _⟩ => ⟨S96x1x16384, .bf16⟩
  | .hbm, ⟨1, _⟩ => ⟨S8192x13312, .i8⟩
  | .hbm, ⟨2, _⟩ => ⟨S128x13312, .bf16⟩
  | .hbm, ⟨3, _⟩ => ⟨S8192x13312, .i32⟩
  | .hbm, ⟨4, _⟩ => ⟨S_, .i32⟩
  | .hbm, ⟨5, _⟩ => ⟨S8192x13312, .i32⟩
  | .hbm, ⟨6, _⟩ => ⟨S8192x13312, .i32⟩
  | .hbm, ⟨7, _⟩ => ⟨S8192x13312, .bf16⟩
  | .hbm, ⟨8, _⟩ => ⟨S_, .bf16⟩
  | .hbm, ⟨9, _⟩ => ⟨S8192x13312, .bf16⟩
  | .hbm, ⟨10, _⟩ => ⟨S8192x13312, .bf16⟩
  | .hbm, ⟨11, _⟩ => ⟨S128x64x13312, .bf16⟩
  | .hbm, ⟨12, _⟩ => ⟨S128x1x13312, .bf16⟩
  | .hbm, ⟨13, _⟩ => ⟨S128x64x13312, .bf16⟩
  | .hbm, ⟨14, _⟩ => ⟨S128x64x13312, .bf16⟩
  | .hbm, ⟨15, _⟩ => ⟨S8192x13312, .bf16⟩
  | .hbm, ⟨16, _⟩ => ⟨S_, .i32⟩
  | .hbm, ⟨17, _⟩ => ⟨S8192x13312, .i32⟩
  | .hbm, ⟨18, _⟩ => ⟨S8192x13312, .i32⟩
  | .hbm, ⟨19, _⟩ => ⟨S8192x13312, .bf16⟩
  | .hbm, ⟨20, _⟩ => ⟨S_, .bf16⟩
  | .hbm, ⟨21, _⟩ => ⟨S8192x13312, .bf16⟩
  | .hbm, ⟨22, _⟩ => ⟨S8192x13312, .bf16⟩
  | .hbm, ⟨23, _⟩ => ⟨S128x64x13312, .bf16⟩
  | .hbm, ⟨24, _⟩ => ⟨S128x1x13312, .bf16⟩
  | .hbm, ⟨25, _⟩ => ⟨S128x64x13312, .bf16⟩
  | .hbm, ⟨26, _⟩ => ⟨S128x64x13312, .bf16⟩
  | .hbm, ⟨27, _⟩ => ⟨S8192x13312, .bf16⟩
  | .hbm, ⟨28, _⟩ => ⟨S96x1x8192, .bf16⟩
  | .hbm, ⟨29, _⟩ => ⟨S96x1x13312, .f32⟩
  | .hbm, ⟨30, _⟩ => ⟨S96x1x8192, .bf16⟩
  | .hbm, ⟨31, _⟩ => ⟨S96x1x13312, .f32⟩
  | .hbm, ⟨32, _⟩ => ⟨S96x1x13312, .f32⟩
  | .hbm, ⟨33, _⟩ => ⟨S96x1x13312, .bf16⟩
  | _, _ => ⟨S96x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Proof.Nibble.lean ====
/- The two four-bit codes of a packed byte as signed weights, and the sum over all weight rows in the two orders the two
   programs take it in. -/
module

public import Idealize.ShloMosaic.Lib.Pointwise

@[expose] public section

set_option maxRecDepth 16384

noncomputable section

namespace Cert.Gptq

open Idealize.ShloMosaic

/-- The weight a packed byte holds in its low half (`p` even) or its high half (`p` odd): the four bits less eight. -/
def half (w : BitVec 8) (p : Nat) : ℤ := if p % 2 = 0 then (w.toNat % 16 : ℤ) - 8 else (w.toNat / 16 : ℤ) - 8

theorem half_even (w : BitVec 8) (p : Nat) (h : p % 2 < 1) : half w p = (w.toNat % 16 : ℤ) - 8 := if_pos (by omega)

theorem half_odd (w : BitVec 8) (p : Nat) (h : ¬p % 2 < 1) : half w p = (w.toNat / 16 : ℤ) - 8 := if_neg (by omega)

/-- The low four bits with the sign bit flipped, read as signed, are the low half's weight. -/
theorem low_kernel : ∀ w : BitVec 8, ((w ^^^ 136#8).setWidth 4).toInt = (w.toNat % 16 : ℤ) - 8 := by decide +kernel

/-- The high four bits with the sign bit flipped, shifted down and read as signed, are the high half's weight. -/
theorem high_kernel : ∀ w : BitVec 8, (((w ^^^ 136#8).sshiftRight' 4#8).setWidth 4).toInt = (w.toNat / 16 : ℤ) - 8 := by
  decide +kernel

/-- The low four bits, masked out at 32 bits. -/
theorem low_reference : ∀ w : BitVec 8, (w.setWidth 32 &&& 15#32).toInt = (w.toNat % 16 : ℤ) := by decide +kernel

/-- The high four bits, shifted down at 32 bits. -/
theorem high_reference : ∀ w : BitVec 8, ((w.setWidth 32).sshiftRight' 4#32).toInt = (w.toNat / 16 : ℤ) := by decide +kernel

/-- The zero point: the pattern 0x4100 is eight. -/
theorem eight : Ideal.ofBits .bf16 0x4100#16 = ((8 : ℝ) : EReal) := by
  simp [Ideal.ofBits, Ideal.ieee, -EReal.coe_mul]; norm_num

/-- Subtracting the zero point from a whole number, in the extended reals. -/
theorem sub_eight (a : ℤ) : ((a : ℝ) : EReal) - Ideal.ofBits .bf16 0x4100#16 = (((a - 8 : ℤ) : ℝ) : EReal) := by
  rw [eight, ← EReal.coe_sub]; norm_num

/-- One product of the whole sum: activation column `K` times weight row `K`, which is half `K % 2` of packed row `K / 2`,
    times the scale of the row's group `K / 128`. -/
def term (x : Fin 16384 → EReal) (w : Fin 8192 → BitVec 8) (s : Fin 128 → EReal) (K : Fin 16384) : EReal :=
  x K * (((half (w ⟨K.val / 2, by omega⟩) K.val : ℝ) : EReal) * s ⟨K.val / 128, by omega⟩)

/-- The whole sum, chunk by chunk. -/
theorem sum_chunks (f : Fin 16384 → EReal) :
    ∑ K, f K = ∑ k : Fin 32, ∑ j : Fin 512, f ⟨512 * k.val + j.val, by omega⟩ := by
  rw [Fin.sum_univ_tiles 32 512 rfl f]
  exact Finset.sum_congr rfl fun k _ => Finset.sum_congr rfl fun j _ => congrArg f (Fin.ext (by dsimp only; omega))

/-- The whole sum, the even rows and then the odd rows. -/
theorem sum_parity (f : Fin 16384 → EReal) :
    ∑ K, f K = (∑ r : Fin 8192, f ⟨2 * r.val, by omega⟩) + ∑ r : Fin 8192, f ⟨2 * r.val + 1, by omega⟩ := by
  rw [Fin.sum_univ_tiles 8192 2 rfl f, ← Finset.sum_add_distrib]
  refine Finset.sum_congr rfl fun r _ => ?_
  rw [Fin.sum_univ_two]
  exact congrArg₂ (· + ·) (congrArg f (Fin.ext (by show r.val * 2 + 0 = 2 * r.val; omega)))
    (congrArg f (Fin.ext (by show r.val * 2 + 1 = 2 * r.val + 1; omega)))

end Cert.Gptq

end
-- ==== Proof.Ref.lean ====
/- The reference's result, read at one element: the same sum, even rows and then odd rows. -/
module

public import proofs.«01_k».proof.Proof.Gen.ReferenceIdeal.Run
public import proofs.«01_k».proof.Proof.Nibble

@[expose] public section

set_option maxRecDepth 16384

noncomputable section

namespace Cert.ReferenceIdeal.Sum

open Cert.ReferenceIdeal Cert.ReferenceIdeal.Gen Idealize.ShloMosaic Idealize.ShloMosaic.TcCoe Idealize.SL.Sem
open Cert.Gptq

/-- One half's weights: the codes less the zero point, each row times its group's scale. -/
def rows (q : IVec S8192x13312 32) (S : FVec Ideal S128x13312 .bf16) : FVec Ideal S8192x13312 .bf16 :=
  shapeCast _ (mulf (shapeCast _ (subf (sitofp .bf16 q) (broadcastInDim S8192x13312 ![] bcast_S_S8192x13312 (constant S_ .bf16 0x4100#16)))
      shapeCasts_S8192x13312_S128x64x13312)
    (broadcastInDim S128x64x13312 ![0, 1, 2] bcast_S128x1x13312_S128x64x13312_0_1_2
      (broadcastInDim S128x1x13312 ![0, 2] bcast_S128x13312_S128x1x13312_0_2 S))) shapeCasts_S128x64x13312_S8192x13312

/-- The low halves' codes. -/
def lows (W : IVec S8192x13312 8) : IVec S8192x13312 32 :=
  andi (extui 32 W natLt_8_32) (broadcastInDim S8192x13312 ![] bcast_S_S8192x13312 (constantI S_ 32 15#32))

/-- The high halves' codes. -/
def highs (W : IVec S8192x13312 8) : IVec S8192x13312 32 :=
  Host.shrsi (extui 32 W natLt_8_32) (broadcastInDim S8192x13312 ![] bcast_S_S8192x13312 (constantI S_ 32 4#32))

/-- The reference's result. -/
def result (X : FVec Ideal S96x1x16384 .bf16) (W : IVec S8192x13312 8) (S : FVec Ideal S128x13312 .bf16) : FVec Ideal S96x1x13312 .bf16 :=
  truncf .bf16 (addf
    (Host.dotGeneral dot_S96x1x8192_S8192x13312_S96x1x13312_2_0_01_1_n_n none
      (Host.slice S96x1x8192 ![0, 0, 0] ![1, 1, 2] X slicesBy_S96x1x16384_S96x1x8192_0s1_0s1_0s2) (rows (lows W) S))
    (Host.dotGeneral dot_S96x1x8192_S8192x13312_S96x1x13312_2_0_01_1_n_n none
      (Host.slice S96x1x8192 ![0, 0, 1] ![1, 1, 2] X slicesBy_S96x1x16384_S96x1x8192_0s1_0s1_1s2) (rows (highs W) S))) bitsLt_bf16_f32

theorem rows_at (q : IVec S8192x13312 32) (S : FVec Ideal S128x13312 .bf16) (r : Fin 8192) (n : Fin 13312) (z : ℤ)
    (hz : (q (ix2 r n)).toInt = z) :
    rows q S (ix2 r n) = (((z - 8 : ℤ) : ℝ) : EReal) * S (ix2 ⟨r.val / 64, by omega⟩ n) := by
  pointwise [rows]
  rw [← sub_eight, ← hz]; rfl

theorem lows_at (W : IVec S8192x13312 8) (r : Fin 8192) (n : Fin 13312) :
    (lows W (ix2 r n)).toInt = ((W (ix2 r n)).toNat % 16 : ℤ) := by
  pointwise [lows]
  exact low_reference _

theorem highs_at (W : IVec S8192x13312 8) (r : Fin 8192) (n : Fin 13312) :
    (highs W (ix2 r n)).toInt = ((W (ix2 r n)).toNat / 16 : ℤ) := by
  pointwise [highs]
  exact high_reference _

/-- The reference's element is the whole sum. -/
theorem result_at (X : FVec Ideal S96x1x16384 .bf16) (W : IVec S8192x13312 8) (S : FVec Ideal S128x13312 .bf16) (b : Fin 96) (n : Fin 13312) :
    result X W S (ix3 b 0 n) = ∑ K, term (fun K => X (ix3 b 0 K)) (fun r => W (ix2 r n)) (fun g => S (ix2 g n)) K := by
  rw [sum_parity]
  pointwise [result]
  refine congrArg₂ (· + ·) (Finset.sum_congr rfl fun r _ => ?_) (Finset.sum_congr rfl fun r _ => ?_)
  · rw [rows_at _ S r n _ (lows_at W r n)]
    refine congrArg₂ (· * ·) rfl (congrArg₂ (· * ·) ?_ (congrArg (fun g => S (ix2 g n)) (Fin.ext (by dsimp only; omega))))
    rw [half_even _ _ (by dsimp only; omega)]
    exact congrArg (fun r => ((((W (ix2 r n)).toNat % 16 - 8 : ℤ) : ℝ) : EReal)) (Fin.ext (by dsimp only; omega))
  · rw [rows_at _ S r n _ (highs_at W r n)]
    refine congrArg₂ (· * ·) (congrArg (fun K => X (ix3 b 0 K)) (Fin.ext (by dsimp only; omega)))
      (congrArg₂ (· * ·) ?_ (congrArg (fun g => S (ix2 g n)) (Fin.ext (by dsimp only; omega))))
    rw [half_odd _ _ (by dsimp only; omega)]
    exact congrArg (fun r => ((((W (ix2 r n)).toNat / 16 - 8 : ℤ) : ℝ) : EReal)) (Fin.ext (by dsimp only; omega))

end Cert.ReferenceIdeal.Sum

end
-- ==== Proof.Step.lean ====
/- What one chunk of the kernel's loop computes, and the kernel's stored block as the running sum of its 32 chunks. -/
module

public import proofs.«01_k».proof.Proof.Gen.KernelIdeal.Frame

@[expose] public section

set_option maxRecDepth 16384

noncomputable section

namespace Cert.KernelIdeal.Chunks

open Cert.KernelIdeal Cert.KernelIdeal.Gen Idealize.ShloMosaic Idealize.ShloMosaic.TcCoe Idealize.SL.Sem

variable {F : FTy → Type} [FloatOps F]

/-- The 512 rows of weights of one chunk, as four-bit codes: each packed byte, its sign bits flipped, gives its low
    half and then its high half. -/
def codes (w : Vec F S256x512 .i8) : IVec S512x512 4 :=
  shapeCast S512x512
    (concatenate S256x2x512 1
      [⟨S256x1x512, shapeCast S256x1x512 (trunci 4 (xori w (broadcast S256x512 136#8)) natLt_4_8) shapeCasts_S256x512_S256x1x512⟩,
       ⟨S256x1x512, shapeCast S256x1x512 (trunci 4 (shrsi (xori w (broadcast S256x512 136#8)) (broadcast S256x512 4#8)) natLt_4_8)
          shapeCasts_S256x512_S256x1x512⟩]
      concatenates_S256x1x512_S256x1x512_S256x2x512_d1)
    shapeCasts_S256x2x512_S512x512

/-- One chunk's weights: its codes as numbers, each group of 128 rows times the group's scale row. -/
def weights (w : Vec F S256x512 .i8) (s0 s1 s2 s3 : Vec F S1x512 .bf16) : FVec F S512x512 .bf16 :=
  concatenate S512x512 0
    [⟨S128x512, mulf (extractStridedSlice S128x512 ![0, 0] (sitofp .bf16 (codes w)) slices_S512x512_o0_0_S128x512)
        (broadcastTo S128x512 s0 broadcasts_S1x512_S128x512)⟩,
     ⟨S128x512, mulf (extractStridedSlice S128x512 ![128, 0] (sitofp .bf16 (codes w)) slices_S512x512_o128_0_S128x512)
        (broadcastTo S128x512 s1 broadcasts_S1x512_S128x512)⟩,
     ⟨S128x512, mulf (extractStridedSlice S128x512 ![256, 0] (sitofp .bf16 (codes w)) slices_S512x512_o256_0_S128x512)
        (broadcastTo S128x512 s2 broadcasts_S1x512_S128x512)⟩,
     ⟨S128x512, mulf (extractStridedSlice S128x512 ![384, 0] (sitofp .bf16 (codes w)) slices_S512x512_o384_0_S128x512)
        (broadcastTo S128x512 s3 broadcasts_S1x512_S128x512)⟩]
    concatenates_S128x512_S128x512_S128x512_S128x512_S512x512_d0

/-- One chunk's product: 512 columns of the activations times the chunk's weights. -/
def product (w : Vec F S256x512 .i8) (s0 s1 s2 s3 : Vec F S1x512 .bf16) (x : Vec F S96x512 .bf16) : FVec F S96x512 .f32 :=
  matmul dot_S96x512_S512x512_S96x512_1_0_0_1_n_n none (shapeCast S96x512 x shapeCasts_S96x512_S96x512)
    (weights w s0 s1 s2 s3) (constant S96x512 .f32 0x00000000#32)

theorem wRows (k : Fin 32) : ∀ a, (![256 * k.val, 0] : Fin 2 → Nat) a + S256x512.size a ≤ S8192x512.size a := by
  have := k.isLt
  intro a; match a with
  | ⟨0, _⟩ => show 256 * k.val + 256 ≤ 8192; omega
  | ⟨1, _⟩ => show 0 + 512 ≤ 512; omega

theorem sRow (g : Fin 128) : ∀ a, (![g.val, 0] : Fin 2 → Nat) a + S1x512.size a ≤ S128x512.size a := by
  have := g.isLt
  intro a; match a with
  | ⟨0, _⟩ => show g.val + 1 ≤ 128; omega
  | ⟨1, _⟩ => show 0 + 512 ≤ 512; omega

theorem xCols (k : Fin 32) : ∀ a, (![0, 512 * k.val] : Fin 2 → Nat) a + S96x512.size a ≤ S96x16384.size a := by
  have := k.isLt
  intro a; match a with
  | ⟨0, _⟩ => show 0 + 96 ≤ 96; omega
  | ⟨1, _⟩ => show 512 * k.val + 512 ≤ 16384; omega

/-- The packed rows of chunk `k`. -/
def wAt (x1 : Vec F S8192x512 .i8) (k : Fin 32) : Vec F S256x512 .i8 :=
  View.ld x1 (Rect.unit (s := S8192x512) ![256 * k.val, 0] S256x512.size (wRows k))

/-- The scale row of group `g`. -/
def sAt (x2 : Vec F S128x512 .bf16) (g : Fin 128) : Vec F S1x512 .bf16 :=
  View.ld x2 (Rect.unit (s := S128x512) ![g.val, 0] S1x512.size (sRow g))

/-- The activation columns of chunk `k`. -/
def xAt (x0 : Vec F S96x16384 .bf16) (k : Fin 32) : Vec F S96x512 .bf16 :=
  View.ld x0 (Rect.unit (s := S96x16384) ![0, 512 * k.val] S96x512.size (xCols k))

/-- Chunk `k`'s product, from the whole blocks. -/
def chunk (x0 : Vec F S96x16384 .bf16) (x1 : Vec F S8192x512 .i8) (x2 : Vec F S128x512 .bf16) (k : Fin 32) : FVec F S96x512 .f32 :=
  product (wAt x1 k) (sAt x2 ⟨4 * k.val, by omega⟩) (sAt x2 ⟨4 * k.val + 1, by omega⟩) (sAt x2 ⟨4 * k.val + 2, by omega⟩)
    (sAt x2 ⟨4 * k.val + 3, by omega⟩) (xAt x0 k)

/-- The running sum of the chunks up to and with chunk `n`. -/
def acc (x0 : Vec F S96x16384 .bf16) (x1 : Vec F S8192x512 .i8) (x2 : Vec F S128x512 .bf16) : (n : Nat) → n < 32 → FVec F S96x512 .f32
  | 0, h => chunk x0 x1 x2 ⟨0, h⟩
  | n + 1, h => addf (acc x0 x1 x2 n (by omega)) (chunk x0 x1 x2 ⟨n + 1, h⟩)

/-- What the kernel stores at a grid point is the sum of the 32 chunks, rounded. -/
theorem out_eq (x0 : Vec F S96x16384 .bf16) (x1 : Vec F S8192x512 .i8) (x2 : Vec F S128x512 .bf16) :
    out0_3 x0 x1 x2 = View.canon [⟨r0_192, truncf .bf16 (acc x0 x1 x2 31 (by omega)) bitsLt_bf16_f32⟩] := by
  rfl

end Cert.KernelIdeal.Chunks

end
-- ==== Proof.Chunk.lean ====
/- What the kernel stores, read at one element: the sum of activation times weight times scale over all 16384 rows. -/
module

public import proofs.«01_k».proof.Proof.Step
public import proofs.«01_k».proof.Proof.Nibble

@[expose] public section

set_option maxRecDepth 16384

noncomputable section

namespace Cert.KernelIdeal.Chunks

open Cert.KernelIdeal Cert.KernelIdeal.Gen Idealize.ShloMosaic Idealize.ShloMosaic.TcCoe Idealize.SL.Sem
open Cert.Gptq

/-- Row `j` of a chunk's codes is half `j % 2` of packed row `j / 2`. -/
theorem codes_at (w : Vec Ideal S256x512 .i8) (j n : Fin 512) :
    (codes (F := Ideal) w (ix2 j n)).toInt = half (w (ix2 ⟨j.val / 2, by omega⟩ n)) j.val := by
  pointwise [codes]
  split
  · rename_i h; exact (low_kernel _).trans (half_even _ _ h).symm
  · rename_i h; exact (high_kernel _).trans (half_odd _ _ h).symm

/-- Row `j` of a chunk's weights: its code times its group's scale. -/
theorem weights_at (w : Vec Ideal S256x512 .i8) (s0 s1 s2 s3 : Vec Ideal S1x512 .bf16) (s : Fin 4 → EReal) (j n : Fin 512)
    (h0 : s0 (ix2 0 n) = s 0) (h1 : s1 (ix2 0 n) = s 1) (h2 : s2 (ix2 0 n) = s 2) (h3 : s3 (ix2 0 n) = s 3) :
    weights (F := Ideal) w s0 s1 s2 s3 (ix2 j n)
      = ((half (w (ix2 ⟨j.val / 2, by omega⟩ n)) j.val : ℝ) : EReal) * s ⟨j.val / 128, by omega⟩ := by
  have row (a : Fin 512) (g : Fin 4) (ha : a = j) (hg : j.val / 128 = g.val) :
      FloatOps.sitofp (F := Ideal) FTy.bf16 (codes (F := Ideal) w (ix2 a n)) * s g
        = ((half (w (ix2 ⟨j.val / 2, by omega⟩ n)) j.val : ℝ) : EReal) * s ⟨j.val / 128, by omega⟩ := by
    have e : (⟨j.val / 128, by omega⟩ : Fin 4) = g := Fin.ext hg
    subst ha
    rw [e, ← codes_at]; rfl
  pointwise [weights]
  by_cases c0 : j.val < 128
  · rw [dif_pos c0, h0]; exact row _ 0 rfl (by show _ = 0; omega)
  rw [dif_neg c0]
  by_cases c1 : j.val - 128 < 128
  · rw [dif_pos c1, h1]; exact row _ 1 (Fin.ext (by dsimp only; omega)) (by show _ = 1; omega)
  rw [dif_neg c1]
  by_cases c2 : j.val - 128 - 128 < 128
  · rw [dif_pos c2, h2]; exact row _ 2 (Fin.ext (by dsimp only; omega)) (by show _ = 2; omega)
  rw [dif_neg c2, h3]; exact row _ 3 (Fin.ext (by dsimp only; omega)) (by show _ = 3; omega)

/-- A chunk's product at one element: its 512 products of the whole sum. -/
theorem chunk_at (x0 : Vec Ideal S96x16384 .bf16) (x1 : Vec Ideal S8192x512 .i8) (x2 : Vec Ideal S128x512 .bf16) (k : Fin 32)
    (b : Fin 96) (n : Fin 512) :
    chunk (F := Ideal) x0 x1 x2 k (ix2 b n)
      = ∑ j : Fin 512, term (fun K => x0 (ix2 b K)) (fun r => x1 (ix2 r n)) (fun g => x2 (ix2 g n)) ⟨512 * k.val + j.val, by omega⟩ := by
  have hs (g : Fin 128) : sAt (F := Ideal) x2 g (ix2 0 n) = x2 (ix2 g n) := by
    pointwise [sAt]
  have hw (r : Fin 256) : wAt (F := Ideal) x1 k (ix2 r n) = x1 (ix2 ⟨256 * k.val + r.val, by omega⟩ n) := by
    pointwise [wAt]
  have hx (j : Fin 512) : xAt (F := Ideal) x0 k (ix2 b j) = x0 (ix2 b ⟨512 * k.val + j.val, by omega⟩) := by
    pointwise [xAt]
  unfold chunk
  generalize hgw : wAt x1 k = w
  generalize hgx : xAt x0 k = x
  pointwise [product]
  refine Finset.sum_congr rfl fun j _ => ?_
  have hW := weights_at w (sAt (F := Ideal) x2 ⟨4 * k.val, by omega⟩) (sAt (F := Ideal) x2 ⟨4 * k.val + 1, by omega⟩)
    (sAt (F := Ideal) x2 ⟨4 * k.val + 2, by omega⟩) (sAt (F := Ideal) x2 ⟨4 * k.val + 3, by omega⟩)
    (fun g => x2 (ix2 ⟨4 * k.val + g.val, by omega⟩ n)) j n (hs _) (hs _) (hs _) (hs _)
  rw [hW, ← hgw, ← hgx, hw, hx]
  unfold term
  refine congrArg₂ (· * ·) rfl (congrArg₂ (· * ·) ?_ ?_)
  · have hp : half (x1 (ix2 ⟨256 * k.val + j.val / 2, by omega⟩ n)) j.val
        = half (x1 (ix2 ⟨(512 * k.val + j.val) / 2, by omega⟩ n)) (512 * k.val + j.val) := by
      have e : (512 * k.val + j.val) % 2 = j.val % 2 := by omega
      have e' : (⟨(512 * k.val + j.val) / 2, by omega⟩ : Fin 8192) = ⟨256 * k.val + j.val / 2, by omega⟩ := Fin.ext (by dsimp only; omega)
      unfold half
      rw [e, e']
    exact congrArg (fun z : ℤ => ((z : ℝ) : EReal)) hp
  · exact congrArg (fun g => x2 (ix2 g n)) (Fin.ext (by dsimp only; omega))

/-- The running sum at one element. -/
theorem acc_at (x0 : Vec Ideal S96x16384 .bf16) (x1 : Vec Ideal S8192x512 .i8) (x2 : Vec Ideal S128x512 .bf16)
    (i : S96x512.Idx) : ∀ (n : Nat) (h : n < 32),
      acc (F := Ideal) x0 x1 x2 n h i = ∑ k : Fin (n + 1), chunk (F := Ideal) x0 x1 x2 ⟨k.val, by omega⟩ i
  | 0, h => by rw [Fin.sum_univ_one]; rfl
  | n + 1, h => by
    rw [Fin.sum_univ_castSucc]
    exact congrArg₂ (· + ·) (acc_at x0 x1 x2 i n (by omega)) rfl

/-- The stored element is the whole sum. -/
theorem stored_at (x0 : Vec Ideal S96x16384 .bf16) (x1 : Vec Ideal S8192x512 .i8) (x2 : Vec Ideal S128x512 .bf16)
    (b : Fin 96) (n : Fin 512) :
    truncf (F := Ideal) .bf16 (acc (F := Ideal) x0 x1 x2 31 (by omega)) bitsLt_bf16_f32 (ix2 b n)
      = ∑ K, term (fun K => x0 (ix2 b K)) (fun r => x1 (ix2 r n)) (fun g => x2 (ix2 g n)) K := by
  rw [sum_chunks]
  refine (acc_at x0 x1 x2 (ix2 b n) 31 (by omega)).trans (Finset.sum_congr rfl fun k _ => ?_)
  exact chunk_at x0 x1 x2 k b n

end Cert.KernelIdeal.Chunks

end
-- ==== Proof.Value.lean ====
/- The kernel's result array after the run: at every element the whole sum over the arguments. -/
module

public import proofs.«01_k».proof.Proof.Chunk
public import Idealize.ShloMosaic.Lib.Claim
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)
open Cert.Gptq

variable (m : (ℓ : Loc nD τ sig) → Buf (Elt Ideal) ℓ)

/-- The result array over the argument arrays. -/
def total (X : FVec Ideal S96x1x16384 .bf16) (W : IVec S8192x13312 8) (S : FVec Ideal S128x13312 .bf16) : FVec Ideal S96x13312 .bf16 :=
  fun i => ∑ K, term (fun K => X (ix3 (i 0) 0 K)) (fun r => W (ix2 r (i 1))) (fun g => S (ix2 g (i 1))) K

/-- Every window's block index: the activations whole, the others at block `t` of the columns. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The activations as the region finds them: the argument with its unit axis dropped by the host. -/
theorem activations (c : Dev nD) : V m c main_v0
    = shapeCast S96x16384 (m ((c : Thread nD τ).loc main_arg0)) shapeCasts_S96x1x16384_S96x16384 := by
  rfl

/-- The activations without their unit axis, read at an element. -/
theorem flat_at (X : FVec Ideal S96x1x16384 .bf16) (b : Fin 96) (K : Fin 16384) :
    shapeCast S96x16384 X shapeCasts_S96x1x16384_S96x16384 (ix2 b K) = X (ix3 b 0 K) := by
  pointwise [shapeCast]

/-- What the body stores at block index `y` of point `t`. -/
theorem point (c : Dev nD) (t : Fin cfg0.N) (y : S96x512.Idx) :
    truncf (F := Ideal) .bf16 (Chunks.acc (F := Ideal) (iblk m c 0 t) (iblk m c 1 t) (iblk m c 2 t) 31 (by omega)) bitsLt_bf16_f32 y
      = total (m ((c : Thread nD τ).loc main_arg0)) (m ((c : Thread nD τ).loc main_arg1)) (m ((c : Thread nD τ).loc main_arg2))
          (((cfg0.win 3).blk t).view.emb y) := by
  idx_vars y
  rw [Chunks.stored_at (iblk m c 0 t) (iblk m c 1 t) (iblk m c 2 t)]
  unfold total
  refine Finset.sum_congr rfl fun K _ => ?_
  unfold term
  refine congrArg₂ (· * ·) ?_ (congrArg₂ (· * ·) (congrArg (fun w : BitVec 8 => ((half w K.val : ℝ) : EReal)) ?_) ?_)
  · dsimp only
    blk_simp [iblk]
    refine (congrFun (activations m c) _).trans ?_
    have hi : (win0_0.blk t).view.emb (ix2 y0 K) = (ix2 y0 K : S96x16384.Idx) := by blk_ext [idx t]
    rw [hi]
    refine (flat_at _ y0 K).trans ?_
    blk_ext [idx t]
  · dsimp only
    blk_ext [iblk, V, idx t]
  · dsimp only
    blk_ext [iblk, V, idx t]

/-- The result array after the run. -/
theorem final (c : Dev nD) : (dats m 0 c).arrAt 3 (cfgs 0).N
    = total (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, Chunks.out_eq]
  refine (congrFun (View.canon_cons_unit_lit' _ _ _ fun a => by fin_cases a <;> rfl) _).trans ?_
  exact point m c t y

/-- The result buffer after the host's reshape. -/
theorem tail (c : Dev nD) : Pipeline.afterTail₀ cfgs (dats m) 0 (V0 m) [hostOps1] c main_v2
    = shapeCast S96x1x13312 ((dats m 0 c).arrAt 3 (cfgs 0).N) shapeCasts_S96x13312_S96x1x13312 := by
  unfold Pipeline.afterTail₀
  rw [← Pipeline.withArrays_arr (cfgs 0).spec (by decide) c (V0 m c) (fun w => (dats m 0 c).arrAt w (cfgs 0).N) 3]
  rfl

/-- The result buffer at one element. -/
theorem tail_at (c : Dev nD) (b : Fin 96) (n : Fin 13312) :
    (show FVec Ideal S96x1x13312 .bf16 from Pipeline.afterTail₀ cfgs (dats m) 0 (V0 m) [hostOps1] c main_v2) (ix3 b 0 n)
      = ∑ K, term (fun K => (show FVec Ideal S96x1x16384 .bf16 from m ((c : Thread nD τ).loc main_arg0)) (ix3 b 0 K))
          (fun r => (show IVec S8192x13312 8 from m ((c : Thread nD τ).loc main_arg1)) (ix2 r n))
          (fun g => (show FVec Ideal S128x13312 .bf16 from m ((c : Thread nD τ).loc main_arg2)) (ix2 g n)) K := by
  have unit (Y : FVec Ideal S96x13312 .bf16) : shapeCast S96x1x13312 Y shapeCasts_S96x13312_S96x1x13312 (ix3 b 0 n) = Y (ix2 b n) := by
    pointwise [shapeCast]
  rw [tail, final]
  exact unit _

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import proofs.«01_k».proof.Proof.Value
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

theorem frame_Kernel : Cert.quiescent_Kernel := fun m ρ _ => Cert.Kernel.Gen.frame m ρ

theorem frame_KernelIdeal : Cert.quiescent_KernelIdeal := fun m ρ _ => Cert.KernelIdeal.Gen.frame m ρ

theorem frame_ReferenceIdeal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- The reference's result is the kernel's, element by element. -/
theorem results_agree (m : (ℓ : Loc Cert.KernelIdeal.nD Cert.KernelIdeal.τ Cert.KernelIdeal.sig) → Buf (Elt Ideal) ℓ)
    (c : Dev Cert.KernelIdeal.nD) :
    Cert.ReferenceIdeal.Sum.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Pipeline.afterTail₀ Cert.KernelIdeal.cfgs (Cert.KernelIdeal.Gen.dats m) 0 (Cert.KernelIdeal.Gen.V0 m)
          [Cert.KernelIdeal.Gen.hostOps1] c Cert.KernelIdeal.main_v2 := by
  funext i
  have hi : i = ix3 (i 0) 0 (i 2) := (eq_ix3 i).trans (by
    have h : (i 1) = (0 : Fin 1) := Subsingleton.elim (α := Fin 1) _ _
    exact congrArg (fun z : Fin 1 => (ix3 (i 0) z (i 2) : Cert.ReferenceIdeal.S96x1x13312.Idx)) h)
  rw [hi]
  exact (Cert.ReferenceIdeal.Sum.result_at _ _ _ (i 0) (i 2)).trans (Cert.KernelIdeal.Value.tail_at m c (i 0) (i 2)).symm

theorem algebraic : Cert.algebraic_KernelIdeal_ReferenceIdeal := by
  pair_intro
  · run_from Cert.KernelIdeal.Gen.run_main m g
    exact Cert.KernelIdeal.Gen.W_main_arg0 m (Cert.KernelIdeal.Gen.dats m) c
  · run_from Cert.ReferenceIdeal.Value.run m' g'
    exact results_agree m c

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
